-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x2048 : Shape := ⟨3, ![64, 1, 2048]⟩
abbrev S2048x16 : Shape := ⟨2, ![2048, 16]⟩
abbrev S16x2048x2048 : Shape := ⟨3, ![16, 2048, 2048]⟩
abbrev S1x2048x512 : Shape := ⟨3, ![1, 2048, 512]⟩
abbrev S1x512x2048 : Shape := ⟨3, ![1, 512, 2048]⟩
abbrev S64x16 : Shape := ⟨2, ![64, 16]⟩
abbrev S64x2048 : Shape := ⟨2, ![64, 2048]⟩
abbrev S64 : Shape := ⟨1, ![64]⟩
abbrev S64x1 : Shape := ⟨2, ![64, 1]⟩
abbrev S2048x512 : Shape := ⟨2, ![2048, 512]⟩
abbrev S64x512 : Shape := ⟨2, ![64, 512]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S64x1x2048, .f32⟩
  | .hbm, ⟨1, _⟩ => ⟨S2048x16, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S64x1x2048, .f32⟩
  | .local _ .vmem, ⟨0, _⟩ => ⟨S64x1x2048, .f32⟩
  | .local _ .vmem, ⟨1, _⟩ => ⟨S2048x16, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S64x1x2048, .f32⟩
  | .local _ .vmem, ⟨9, _⟩ => ⟨S64x16, .f32⟩
  | _, _ => ⟨S64x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S64x1x2048 : Shape := ⟨3, ![64, 1, 2048]⟩
abbrev S2048x16 : Shape := ⟨2, ![2048, 16]⟩
abbrev S16x2048x2048 : Shape := ⟨3, ![16, 2048, 2048]⟩
abbrev S64x2048 : Shape := ⟨2, ![64, 2048]⟩
abbrev S64x16 : Shape := ⟨2, ![64, 16]⟩
abbrev S_ : Shape := ⟨0, ![]⟩
abbrev S64 : Shape := ⟨1, ![64]⟩
abbrev S64x1 : Shape := ⟨2, ![64, 1]⟩
abbrev S64x2 : Shape := ⟨2, ![64, 2]⟩
abbrev S64x2x1 : Shape := ⟨3, ![64, 2, 1]⟩
abbrev S64x2x2 : Shape := ⟨3, ![64, 2, 2]⟩
abbrev S64x16x2048 : Shape := ⟨3, ![64, 16, 2048]⟩
abbrev S16x2048x64 : Shape := ⟨3, ![16, 2048, 64]⟩

abbrev nBuf : Space → Nat
  | .hbm => 67
  | .vmem => 0
  | .smem => 0
  | _ => 0

abbrev bufTy : (tb : Table) → Fin (tcTables nBuf tb) → BufTy
  | .hbm, ⟨0, _⟩ => ⟨S64x1x2048, .f32⟩
  | .hbm, ⟨1, _⟩ => ⟨S2048x16, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S64x2048, .f32⟩
  | .hbm, ⟨6, _⟩ => ⟨S64x16, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x16, .f32⟩
  | .hbm, ⟨14, _⟩ => ⟨S64x16, .f32⟩
  | .hbm, ⟨15, _⟩ => ⟨S64x16, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x16, .f32⟩
  | .hbm, ⟨20, _⟩ => ⟨S64x16, .f32⟩
  | .hbm, ⟨21, _⟩ => ⟨S64x2, .f32⟩
  | .hbm, ⟨22, _⟩ => ⟨S64x2, .i32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x2, .f32⟩
  | .hbm, ⟨27, _⟩ => ⟨S64x2, .f32⟩
  | .hbm, ⟨28, _⟩ => ⟨S_, .f32⟩
  | .hbm, ⟨29, _⟩ => ⟨S64x16, .f32⟩
  | .hbm, ⟨30, _⟩ => ⟨S64, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i1⟩
  | .hbm, ⟨35, _⟩ => ⟨S_, .i32⟩
  | .hbm, ⟨36, _⟩ => ⟨S64x1, .i32⟩
  | .hbm, ⟨37, _⟩ => ⟨S64x1, .i32⟩
  | .hbm, ⟨38, _⟩ => ⟨S64x1, .i32⟩
  | .hbm, ⟨39, _⟩ => ⟨S_, .i32⟩
  | .hbm, ⟨40, _⟩ => ⟨S64x2, .i32⟩
  | .hbm, ⟨41, _⟩ => ⟨S64x2, .i1⟩
  | .hbm, ⟨42, _⟩ => ⟨S_, .i32⟩
  | .hbm, ⟨43, _⟩ => ⟨S64x2, .i32⟩
  | .hbm, ⟨44, _⟩ => ⟨S64x2, .i32⟩
  | .hbm, ⟨45, _⟩ => ⟨S64x2, .i32⟩
  | .hbm, ⟨46, _⟩ => ⟨S64x2, .i32⟩
  | .hbm, ⟨47, _⟩ => ⟨S64x2x1, .i32⟩
  | .hbm, ⟨48, _⟩ => ⟨S64x2x1, .i32⟩
  | .hbm, ⟨49, _⟩ => ⟨S64x2x2, .i32⟩
  | .hbm, ⟨50, _⟩ => ⟨S64x16, .f32⟩
  | .hbm, ⟨51, _⟩ => ⟨S64x16x2048, .f32⟩
  | .hbm, ⟨52, _⟩ => ⟨S64x16x2048, .f32⟩
  | .hbm, ⟨53, _⟩ => ⟨S64x16x2048, .f32⟩
  | .hbm, ⟨54, _⟩ => ⟨S64x16x2048, .f32⟩
  | .hbm, ⟨55, _⟩ => ⟨S_, .f32⟩
  | .hbm, ⟨56, _⟩ => ⟨S64x16x2048, .f32⟩
  | .hbm, ⟨57, _⟩ => ⟨S64x16x2048, .f32⟩
  | .hbm, ⟨58, _⟩ => ⟨S_, .f32⟩
  | .hbm, ⟨59, _⟩ => ⟨S64x16x2048, .f32⟩
  | .hbm, ⟨60, _⟩ => ⟨S64x16x2048, .f32⟩
  | .hbm, ⟨61, _⟩ => ⟨S64x16x2048, .f32⟩
  | .hbm, ⟨62, _⟩ => ⟨S64x16x2048, .f32⟩
  | .hbm, ⟨63, _⟩ => ⟨S16x2048x64, .f32⟩
  | .hbm, ⟨64, _⟩ => ⟨S64x16x2048, .f32⟩
  | .hbm, ⟨65, _⟩ => ⟨S64x2048, .f32⟩
  | .hbm, ⟨66, _⟩ => ⟨S64x1x2048, .f32⟩
  | _, _ => ⟨S64x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Step.lean ====
/- What one point of the kernel's grid leaves in the output block and in the carried scratch. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen Cert.KernelIdeal.Value

/-- The combine weights the kernel's first point stores: of the tokens and of the router's matrix. -/
def weights (x : FVec Ideal S64x1x2048 .f32) (w : FVec Ideal S2048x16 .f32) : FVec Ideal S64x16 .f32 :=
  k0_pay11 (F := Ideal) (k0_pay4 (F := Ideal) x w) (k0_pay6 (F := Ideal) x w) (k0_pay7 (F := Ideal) x w)
    (k0_pay8 (F := Ideal) x w) (k0_pay9 (F := Ideal) x w) (k0_pay10 (F := Ideal))

variable (m : (ℓ : Loc nD τ sig) → Buf (Elt Ideal) ℓ)

/-- The first point stores the combine weights in the scratch and adds its part to zeros in the output. -/
theorem step_first (c : Dev nD) (t : Fin cfg0.N) (acc : Vec Ideal S64x1x2048 .f32 × Vec Ideal S64x16 .f32) (h : t.val % 64 = 0) :
    stAt0 m c t.val t.isLt acc = (k0_pay1 (k0_pay13 (F := Ideal) (grid0.coords t) (iblk m c 0 t) (iblk m c 2 t) (iblk m c 3 t)
      (weights (iblk m c 0 t) (iblk m c 1 t)) (k0_pay12 (F := Ideal)) (iblk m c 4 t)), weights (iblk m c 0 t) (iblk m c 1 t)) := by
  rw [stAt0_A m c t acc h]
  refine Prod.ext ?_ ?_
  · funext j
    dsimp only
    frame_out
    rfl
  · funext j
    dsimp only
    frame_out
    rfl

/-- Every later point keeps the scratch and adds its part to the output. -/
theorem step_later (c : Dev nD) (t : Fin cfg0.N) (acc : Vec Ideal S64x1x2048 .f32 × Vec Ideal S64x16 .f32) (h : ¬ t.val % 64 = 0) :
    stAt0 m c t.val t.isLt acc = (k0_pay1 (k0_pay13 (F := Ideal) (grid0.coords t) (iblk m c 0 t) (iblk m c 2 t) (iblk m c 3 t)
      acc.2 acc.1 (iblk m c 4 t)), acc.2) := by
  rw [stAt0_B m c t acc h]
  refine Prod.ext ?_ ?_
  · funext j
    dsimp only
    frame_out
    rw [read_unread_whole cc0_scratch0]
  · rfl

end Cert.KernelIdeal.Hand
-- ==== Proof.Blocks.lean ====
/- The input blocks of a grid point, read off the arguments: point `t` works on expert `t / 4` and on its hidden columns from
   `512 * (t % 4)`; the tokens and the router's matrix are whole at every point. -/
module

public import proofs.«01_k».proof.Proof.Step

@[expose] public section

set_option maxRecDepth 16384

noncomputable section

namespace Cert.KernelIdeal.Hand

open Idealize.ShloMosaic Idealize.ShloMosaic.TcCoe Idealize.SL.Sem
open Cert.KernelIdeal Cert.KernelIdeal.Gen

/-- The block indices of the input windows at each point, and the point's expert. -/
theorem idx : ∀ t : Fin cfg0.N, win0_0.index t = ![0, 0, 0] ∧ win0_1.index t = ![0, 0] ∧ win0_2.index t = ![t.val / 4, 0, t.val % 4]
    ∧ win0_3.index t = ![t.val / 4, 0, t.val % 4] ∧ win0_4.index t = ![t.val / 4, t.val % 4, 0] ∧ ((grid0.coords t) 0).val = t.val / 4 :=
  (by decide +kernel : ∀ t : Fin grid0.N, _)

variable (m : (ℓ : Loc nD τ sig) → Buf (Elt Ideal) ℓ) (c : Dev nD)

/-- The tokens. -/
abbrev argX : FVec Ideal S64x1x2048 .f32 := m ((c : Thread nD τ).loc main_arg0)
/-- The router's matrix. -/
abbrev argR : FVec Ideal S2048x16 .f32 := m ((c : Thread nD τ).loc main_arg1)
/-- The gate matrices. -/
abbrev argG : FVec Ideal S16x2048x2048 .f32 := m ((c : Thread nD τ).loc main_arg2)
/-- The up matrices. -/
abbrev argU : FVec Ideal S16x2048x2048 .f32 := m ((c : Thread nD τ).loc main_arg3)
/-- The down matrices. -/
abbrev argD : FVec Ideal S16x2048x2048 .f32 := m ((c : Thread nD τ).loc main_arg4)

/-- The tokens' block is the tokens. -/
theorem block_x (t : Fin cfg0.N) : iblk m c 0 t = argX m c := by
  funext i
  blk_point [iblk, V, idx t]

/-- The router's block is the router's matrix. -/
theorem block_r (t : Fin cfg0.N) : iblk m c 1 t = argR m c := by
  funext i
  blk_point [iblk, V, idx t]

/-- The gate's block. -/
theorem block_g (t : Fin cfg0.N) (l : Fin 2048) (k : Fin 512) (he : t.val / 4 < 16) (hk : t.val % 4 * 512 + k.val < 2048) :
    iblk m c 2 t (ix3 0 l k) = argG m c (ix3 ⟨t.val / 4, he⟩ l ⟨t.val % 4 * 512 + k.val, hk⟩) := by
  blk_point [iblk, V, idx t]

/-- The up projection's block. -/
theorem block_u (t : Fin cfg0.N) (l : Fin 2048) (k : Fin 512) (he : t.val / 4 < 16) (hk : t.val % 4 * 512 + k.val < 2048) :
    iblk m c 3 t (ix3 0 l k) = argU m c (ix3 ⟨t.val / 4, he⟩ l ⟨t.val % 4 * 512 + k.val, hk⟩) := by
  blk_point [iblk, V, idx t]

/-- The down projection's block. -/
theorem block_d (t : Fin cfg0.N) (k : Fin 512) (h : Fin 2048) (he : t.val / 4 < 16) (hk : t.val % 4 * 512 + k.val < 2048) :
    iblk m c 4 t (ix3 0 k h) = argD m c (ix3 ⟨t.val / 4, he⟩ ⟨t.val % 4 * 512 + k.val, hk⟩ h) := by
  blk_point [iblk, V, idx t]

end Cert.KernelIdeal.Hand
-- ==== Proof.Rank.lean ====
/- The two greatest entries of a row, ties settled by the lower position: as the first two places of the stable sort by "greater first",
   and as the word that a minimum over the positions of the greatest entries leaves. -/
module

public import Idealize.ShloMosaic.Lib.Pointwise
public import Idealize.ShloMosaic.Lib.SortFacts
public import Idealize.ShloMosaic.Lib.WordCmp
public import Idealize.ShloMosaic.Lib.SortNet.Extract

@[expose] public section

noncomputable section

namespace Cert.Route

open Idealize.ShloMosaic

section rank

variable {n : ℕ}

/-- Position `b` ranks ahead of position `c`: its entry is greater, or equal and at a lower position. -/
def Ahead (a : Fin n → EReal) (b c : Fin n) : Prop := a c < a b ∨ (a c = a b ∧ b < c)

/-- No two positions rank ahead of each other. -/
theorem Ahead.asymm {a : Fin n → EReal} {b c : Fin n} (h : Ahead a b c) : ¬ Ahead a c b := by
  rintro (h' | ⟨e, h'⟩) <;> rcases h with h | ⟨e', h⟩
  · exact lt_asymm h h'
  · exact absurd e' h'.ne'
  · exact absurd e h.ne'
  · exact lt_asymm h h'

/-- "Entry `b` is greater than entry `c`", as the sort asks it. -/
def greater (a : Fin n → EReal) : Fin n → Fin n → Bool := fun b c => decide (a c < a b)

/-- Putting a position lower than all of a ranked list into that list leaves it ranked. -/
theorem pairwise_insertBefore_ahead (a : Fin n → EReal) (p : Fin n) : ∀ l : List (Fin n), (∀ b ∈ l, p < b) → l.Pairwise (Ahead a) →
    (insertBefore (greater a) p l).Pairwise (Ahead a)
  | [], _, _ => List.pairwise_singleton _ _
  | b :: l, hp, hl => by
    rw [List.pairwise_cons] at hl
    unfold insertBefore
    split
    · rename_i h
      refine List.pairwise_cons.mpr ⟨fun c hc => ?_, pairwise_insertBefore_ahead a p l (fun d hd => hp d (List.mem_cons_of_mem _ hd)) hl.2⟩
      rcases List.mem_cons.mp ((perm_insertBefore (greater a) p l).mem_iff.mp hc) with rfl | hc'
      · exact Or.inl (of_decide_eq_true h)
      · exact hl.1 c hc'
    · rename_i h
      have hb : a b ≤ a p := not_lt.mp fun h' => h (decide_eq_true h')
      refine List.pairwise_cons.mpr ⟨fun c hc => ?_, List.pairwise_cons.mpr hl⟩
      have hc' : a c ≤ a p := by
        rcases List.mem_cons.mp hc with rfl | hc'
        · exact hb
        · rcases hl.1 c hc' with h' | ⟨e, _⟩
          · exact h'.le.trans hb
          · exact e.le.trans hb
      rcases hc'.lt_or_eq with h' | h'
      · exact Or.inl h'
      · exact Or.inr ⟨h', hp c hc⟩

/-- The stable sort of an ascending list of positions is ranked. -/
theorem pairwise_stableSort_ahead (a : Fin n → EReal) : ∀ l : List (Fin n), l.Pairwise (· < ·) →
    (stableSort (greater a) l).Pairwise (Ahead a)
  | [], _ => List.Pairwise.nil
  | p :: l, hl => by
    rw [List.pairwise_cons] at hl
    unfold stableSort
    exact pairwise_insertBefore_ahead a p _ (fun b hb => hl.1 b ((perm_stableSort _ l).mem_iff.mp hb)) (pairwise_stableSort_ahead a l hl.2)

/-- The sources of a stable sort's places are ranked. -/
theorem sortedFrom_ahead (a : Fin n → EReal) {i j : Fin n} (hij : i < j) : Ahead a (sortedFrom (greater a) i) (sortedFrom (greater a) j) := by
  have h : (sortPositions n (greater a)).Pairwise (Ahead a) := pairwise_stableSort_ahead a _ (List.pairwise_lt_finRange n)
  have hp := List.pairwise_iff_get.mp h
  unfold sortedFrom
  exact hp _ _ (by simp only [Fin.lt_def, Fin.val_cast]; exact hij)

end rank

/-- `p` holds the greatest entry, at the lowest position it stands at. -/
def First (a : Fin 16 → EReal) (p : Fin 16) : Prop := ∀ c, c ≠ p → Ahead a p c

/-- `q` holds the greatest entry but that of `p`, at the lowest such position. -/
def Second (a : Fin 16 → EReal) (p q : Fin 16) : Prop := q ≠ p ∧ ∀ c, c ≠ p → c ≠ q → Ahead a q c

/-- The first position is one. -/
theorem First.unique {a : Fin 16 → EReal} {p p' : Fin 16} (h : First a p) (h' : First a p') : p = p' := by
  by_contra e
  exact (h p' (Ne.symm e)).asymm (h' p e)

/-- The second position is one. -/
theorem Second.unique {a : Fin 16 → EReal} {p q q' : Fin 16} (h : Second a p q) (h' : Second a p q') : q = q' := by
  by_contra e
  exact (h.2 q' h'.1 (Ne.symm e)).asymm (h'.2 q h.1 e)

/-- The sort's first place comes from the first position. -/
theorem first_sortedFrom (a : Fin 16 → EReal) : First a (sortedFrom (greater a) 0) := by
  intro c hc
  obtain ⟨j, rfl⟩ := sortedFrom_surjective (greater a) c
  refine sortedFrom_ahead a (Fin.pos_of_ne_zero fun h => hc (by rw [h]))

/-- The sort's second place comes from the second position. -/
theorem second_sortedFrom (a : Fin 16 → EReal) : Second a (sortedFrom (greater a) 0) (sortedFrom (greater a) 1) := by
  refine ⟨fun h => absurd (sortedFrom_injective _ h) (by decide), fun c hc hc' => ?_⟩
  obtain ⟨j, rfl⟩ := sortedFrom_surjective (greater a) c
  have h0 : j ≠ 0 := fun h => hc (by rw [h])
  have h1 : j ≠ 1 := fun h => hc' (by rw [h])
  refine sortedFrom_ahead a ?_
  rw [Fin.lt_def]
  have h0' : j.val ≠ 0 := fun h => h0 (Fin.ext h)
  have h1' : j.val ≠ 1 := fun h => h1 (Fin.ext h)
  show 1 < j.val
  omega

/-- The greatest entry of a row. -/
def top (a : Fin 16 → EReal) : EReal := Finset.univ.fold max ⊥ a

/-- The first position holds the greatest entry. -/
theorem First.top_eq {a : Fin 16 → EReal} {p : Fin 16} (h : First a p) : top a = a p := by
  refine le_antisymm ?_ ?_
  · refine Finset.fold_max_le _ |>.mpr ⟨bot_le, fun c _ => ?_⟩
    by_cases e : c = p
    · rw [e]
    · rcases h c e with h' | ⟨h', _⟩
      · exact h'.le
      · exact h'.le
  · exact Finset.le_fold_max _ |>.mpr (Or.inr ⟨p, Finset.mem_univ _, le_rfl⟩)

/-- A fold of the signed minimum is at most its start and each of its entries, and is one of them. -/
theorem fold_minsi_spec {ι : Type} [DecidableEq ι] (z : BitVec 32) (g : ι → BitVec 32) (s : Finset ι) :
    (∀ k ∈ s, (s.fold IntOp.minsi z g).toInt ≤ (g k).toInt) ∧ (s.fold IntOp.minsi z g = z ∨ ∃ k ∈ s, s.fold IntOp.minsi z g = g k) := by
  induction s using Finset.induction_on with
  | empty => exact ⟨fun k hk => absurd hk (Finset.notMem_empty k), Or.inl rfl⟩
  | insert x s hx ih =>
    rw [Finset.fold_insert hx]
    refine ⟨fun k hk => ?_, ?_⟩
    · rw [SortNet.toInt_minsi]
      rcases Finset.mem_insert.mp hk with rfl | hk'
      · exact min_le_left _ _
      · exact (min_le_right _ _).trans (ih.1 k hk')
    · have hc : ∀ u v : BitVec 32, IntOp.minsi u v = u ∨ IntOp.minsi u v = v := by
        intro u v
        rcases le_total u.toInt v.toInt with h | h
        · exact Or.inl (BitVec.eq_of_toInt_eq (by rw [SortNet.toInt_minsi, min_eq_left h]))
        · exact Or.inr (BitVec.eq_of_toInt_eq (by rw [SortNet.toInt_minsi, min_eq_right h]))
      rcases hc (g x) (s.fold IntOp.minsi z g) with h | h
      · exact Or.inr ⟨x, Finset.mem_insert_self _ _, h⟩
      · rcases ih.2 with h' | ⟨k, hk, h'⟩
        · exact Or.inl (h.trans h')
        · exact Or.inr ⟨k, Finset.mem_insert_of_mem hk, h.trans h'⟩

/-- The least position at which the greatest entry stands, as a word. -/
def lead (a : Fin 16 → EReal) : BitVec 32 :=
  Finset.univ.fold IntOp.minsi 2147483647#32 fun j : Fin 16 => if a j = top a then BitVec.ofNat 32 j.val else 16#32

/-- There is a first position. -/
theorem exists_first (a : Fin 16 → EReal) : ∃ p, First a p := ⟨_, first_sortedFrom a⟩

/-- That word is the first position's. -/
theorem First.lead_eq {a : Fin 16 → EReal} {p : Fin 16} (h : First a p) : lead a = BitVec.ofNat 32 p.val := by
  have hlt : ∀ k : Fin 16, (BitVec.ofNat 32 k.val).toInt = (k.val : ℤ) := fun k =>
    WordCmp.toInt_ofNat_of_lt (lt_of_lt_of_le k.isLt (by decide))
  have hs := fold_minsi_spec 2147483647#32 (fun j : Fin 16 => if a j = top a then BitVec.ofNat 32 j.val else 16#32) Finset.univ
  have h1 : (lead a).toInt ≤ (p.val : ℤ) := by
    have := hs.1 p (Finset.mem_univ _)
    rwa [if_pos h.top_eq.symm, hlt] at this
  have hp : (p.val : ℤ) < 16 := by exact_mod_cast p.isLt
  rcases hs.2 with h2 | ⟨k, _, h2⟩
  · exfalso
    rw [show lead a = 2147483647#32 from h2] at h1
    have : (2147483647#32 : BitVec 32).toInt = 2147483647 := by decide
    omega
  · have h2' : lead a = _ := h2
    split at h2'
    · rename_i hk
      rw [h2', hlt] at h1
      by_cases e : k = p
      · rw [h2', e]
      · rcases h k e with h' | ⟨_, h'⟩
        · rw [hk, h.top_eq] at h'
          exact absurd h' (lt_irrefl _)
        · have : p.val < k.val := h'
          omega
    · exfalso
      rw [h2'] at h1
      have : (16#32 : BitVec 32).toInt = 16 := by decide
      omega

end Cert.Route
-- ==== Proof.Softmax.lean ====
/- The softmax of a row of extended reals: bottom everywhere when the row's maximum is infinite, else reals that are not negative, one of
   them positive. -/
module

public import proofs.«01_k».proof.Proof.Rank
public import Idealize.ShloMosaic.Lib.IdealHost

@[expose] public section

noncomputable section

namespace Cert.Route

open Idealize.ShloMosaic

/-- The word of minus infinity is bottom. -/
theorem ofBits_neg_inf : Ideal.ofBits .f32 0xFF800000#32 = ⊥ := by
  simp [Ideal.ofBits, Ideal.ieee]

/-- The word of minus one. -/
theorem ofBits_neg_one : Ideal.ofBits .f32 0xBF800000#32 = ((-1 : ℝ) : EReal) := by
  simp [Ideal.ofBits, Ideal.ieee, -EReal.coe_mul, -EReal.coe_neg]
  norm_num

/-- The exponential of bottom is zero. -/
theorem exp_bot : Ideal.exp ⊥ = 0 := rfl

/-- The softmax of a row, each logit shifted by the row's maximum. -/
def soft (l : Fin 16 → EReal) (e : Fin 16) : EReal :=
  Ideal.div (Ideal.exp (l e - max ⊥ (top l))) (∑ x, Ideal.exp (l x - max ⊥ (top l)))

/-- A row whose two greatest entries can be normalised alike by both programs: bottom everywhere, or reals that are not negative, one of
    them positive. -/
def Good (a : Fin 16 → EReal) : Prop :=
  (∀ j, a j = ⊥) ∨ ∃ r : Fin 16 → ℝ, (∀ j, a j = (r j : EReal)) ∧ (∀ j, 0 ≤ r j) ∧ ∃ j, 0 < r j

/-- A sum of reals is the real sum. -/
theorem coe_sum (f : Fin 16 → ℝ) : (∑ x, (f x : EReal)) = ((∑ x, f x : ℝ) : EReal) := by
  induction (Finset.univ : Finset (Fin 16)) using Finset.induction_on with
  | empty => simp
  | insert x s hx ih => rw [Finset.sum_insert hx, Finset.sum_insert hx, ih, EReal.coe_add]

/-- Where every shifted logit is bottom, the softmax is bottom everywhere. -/
theorem soft_of_bot (l : Fin 16 → EReal) (h : ∀ x, l x - max ⊥ (top l) = ⊥) (e : Fin 16) : soft l e = ⊥ := by
  unfold soft
  simp only [h, exp_bot, Finset.sum_const_zero]
  simp [Ideal.div]

/-- The softmax of any row is good. -/
theorem good_soft (l : Fin 16 → EReal) : Good (soft l) := by
  obtain ⟨p, hp⟩ := exists_first l
  have hM : max ⊥ (top l) = l p := by rw [hp.top_eq, max_eq_right bot_le]
  have hle : ∀ j, l j ≤ l p := fun j => by
    by_cases e : j = p
    · rw [e]
    · rcases hp j e with h | ⟨h, _⟩
      · exact h.le
      · exact h.le
  induction hv : l p using EReal.rec with
  | bot =>
    refine Or.inl (soft_of_bot l fun x => ?_)
    have : l x = ⊥ := le_bot_iff.mp ((hle x).trans hv.le)
    rw [hM, this]
    exact EReal.bot_sub _
  | coe m =>
    have hs : ∀ j, ∃ s : ℝ, Ideal.exp (l j - max ⊥ (top l)) = (s : EReal) ∧ 0 ≤ s ∧ (j = p → s = 1) := by
      intro j
      rw [hM, hv]
      induction hj : l j using EReal.rec with
      | bot =>
        refine ⟨0, ?_, le_rfl, fun e => ?_⟩
        · rw [EReal.bot_sub, exp_bot, EReal.coe_zero]
        · rw [e, hv] at hj
          exact absurd hj (EReal.coe_ne_bot _)
      | coe x =>
        refine ⟨Real.exp (x - m), rfl, (Real.exp_pos _).le, fun e => ?_⟩
        rw [e, hv] at hj
        have : m = x := EReal.coe_eq_coe_iff.mp hj
        rw [this, sub_self, Real.exp_zero]
      | top =>
        have h' := hle j
        rw [hj, hv] at h'
        exact absurd h' (not_le.mpr (EReal.coe_lt_top m))
    choose s hs0 hs1 hs2 using hs
    have hS : (0 : ℝ) < ∑ x, s x := by
      refine lt_of_lt_of_le one_pos ?_
      rw [← hs2 p rfl]
      exact Finset.single_le_sum (fun x _ => hs1 x) (Finset.mem_univ p)
    have he : ∀ j, soft l j = ((s j / ∑ x, s x : ℝ) : EReal) := by
      intro j
      unfold soft
      simp only [hs0]
      rw [coe_sum]
      unfold Ideal.div
      rw [if_neg (by exact_mod_cast hS.ne'), ← EReal.coe_inv, ← EReal.coe_mul, div_eq_mul_inv]
    refine Or.inr ⟨fun j => s j / ∑ x, s x, he, fun j => div_nonneg (hs1 j) hS.le, p, ?_⟩
    exact div_pos (by rw [hs2 p rfl]; exact one_pos) hS
  | top =>
    refine Or.inl (soft_of_bot l fun x => ?_)
    rw [hM, hv]
    exact EReal.sub_top _

end Cert.Route
-- ==== Proof.Weights.lean ====
/- The two ways of a row's combine weights agree: the kernel's, by two masks and two maxima, and the reference's, by a sort and two writes. -/
module

public import proofs.«01_k».proof.Proof.Softmax

@[expose] public section

noncomputable section

namespace Cert.Route

open Idealize.ShloMosaic

/-- The mask of a row's first position. -/
def mask (a : Fin 16 → EReal) (e : Fin 16) : BitVec 1 := IntOp.cmpi .eq (BitVec.ofNat 32 e.val) (lead a)

/-- The row with minus one at its first position. -/
def masked (a : Fin 16 → EReal) (e : Fin 16) : EReal := Scalar.select (mask a e) ((-1 : ℝ) : EReal) (a e)

/-- A row's combine weight of column `e` by masks. -/
def byMasks (a : Fin 16 → EReal) (e : Fin 16) : EReal :=
  Scalar.select (mask a e) (Ideal.div (top a) (top a + top (masked a))) 0
    + Scalar.select (mask (masked a) e) (Ideal.div (top (masked a)) (top a + top (masked a))) 0

/-- A row's combine weight of column `e` by the sort: the second entry's weight is written last. -/
def bySort (a : Fin 16 → EReal) (e : Fin 16) : EReal :=
  if e = sortedFrom (greater a) 1 then Ideal.div (a (sortedFrom (greater a) 1)) (a (sortedFrom (greater a) 0) + a (sortedFrom (greater a) 1))
  else if e = sortedFrom (greater a) 0 then Ideal.div (a (sortedFrom (greater a) 0)) (a (sortedFrom (greater a) 0) + a (sortedFrom (greater a) 1))
  else 0

/-- The mask selects the first position. -/
theorem First.select_mask {α : Type} {a : Fin 16 → EReal} {p : Fin 16} (h : First a p) (e : Fin 16) (u v : α) :
    Scalar.select (mask a e) u v = if e = p then u else v := by
  unfold mask
  rw [h.lead_eq, WordCmp.cmpi_eq_ofNat (lt_of_lt_of_le e.isLt (by decide)) (lt_of_lt_of_le p.isLt (by decide)), WordCmp.select_decide]
  exact if_congr Fin.ext_iff.symm rfl rfl

/-- Of the masked row, the first position is the row's second, and the greatest entry the row's there. -/
theorem masked_spec {a : Fin 16 → EReal} {r : Fin 16 → ℝ} (ha : ∀ j, a j = (r j : EReal)) (hr : ∀ j, 0 ≤ r j) {p q : Fin 16}
    (hp : First a p) (hq : First (masked a) q) : Second a p q ∧ top (masked a) = a q := by
  have hm : ∀ e, masked a e = if e = p then ((-1 : ℝ) : EReal) else a e := fun e => hp.select_mask e _ _
  have hqp : q ≠ p := by
    intro e
    obtain ⟨c, hc⟩ : ∃ c : Fin 16, c ≠ p := exists_ne p
    have h := hq c (by rw [e]; exact hc)
    have hlt : masked a q < masked a c := by
      rw [hm, hm, if_pos e, if_neg hc, ha]
      exact_mod_cast lt_of_lt_of_le (by norm_num) (hr c)
    rcases h with h | ⟨h, _⟩
    · exact lt_asymm h hlt
    · exact absurd h hlt.ne'
  refine ⟨⟨hqp, fun c hcp hcq => ?_⟩, ?_⟩
  · have h := hq c hcq
    unfold Ahead at h ⊢
    rwa [hm, hm, if_neg hqp, if_neg hcp] at h
  · rw [hq.top_eq, hm, if_neg hqp]

/-- On a good row the two combine weights agree. -/
theorem byMasks_eq_bySort {a : Fin 16 → EReal} (h : Good a) (e : Fin 16) : byMasks a e = bySort a e := by
  obtain ⟨p, hp⟩ := exists_first a
  rcases h with h | ⟨r, ha, hr, -⟩
  · have h0 : top a = ⊥ := by rw [hp.top_eq, h]
    have hd : ∀ x : EReal, Ideal.div x (⊥ : EReal) = 0 := fun x => by simp [Ideal.div]
    unfold byMasks bySort
    simp only [h0, h, EReal.bot_add, hd, ite_self]
    simp [Scalar.select]
  · obtain ⟨q, hq⟩ := exists_first (masked a)
    obtain ⟨h2, ht⟩ := masked_spec ha hr hp hq
    have e1 : sortedFrom (greater a) 0 = p := (first_sortedFrom a).unique hp
    have e2 : sortedFrom (greater a) 1 = q := by
      have := second_sortedFrom a
      rw [e1] at this
      exact this.unique h2
    unfold byMasks bySort
    rw [e1, e2, hp.select_mask, hq.select_mask, hp.top_eq, ht]
    by_cases hep : e = p
    · rw [if_pos hep, if_neg (fun h => h2.1 (h.symm.trans hep)), if_neg (fun h => h2.1 (h.symm.trans hep)), add_zero]
    · by_cases heq : e = q
      · rw [if_neg hep, if_pos heq, zero_add]
      · rw [if_neg hep, if_neg heq, add_zero]

/-- On a good row the combine weights are reals that are not negative. -/
theorem bySort_nonneg {a : Fin 16 → EReal} (h : Good a) (e : Fin 16) : ∃ w : ℝ, 0 ≤ w ∧ bySort a e = (w : EReal) := by
  rcases h with h | ⟨r, ha, hr, j, hj⟩
  · refine ⟨0, le_rfl, ?_⟩
    unfold bySort
    simp [h, Ideal.div]
  · generalize hp : sortedFrom (greater a) 0 = p
    generalize hq : sortedFrom (greater a) 1 = q
    have hf : First a p := hp ▸ first_sortedFrom a
    have hpos : 0 < r p := by
      by_cases e : j = p
      · rwa [← e]
      · refine lt_of_lt_of_le hj ?_
        rcases hf j e with h | ⟨h, _⟩
        · rw [ha, ha] at h
          exact_mod_cast h.le
        · rw [ha, ha] at h
          exact_mod_cast h.le
    have hs : (0 : ℝ) < r p + r q := add_pos_of_pos_of_nonneg hpos (hr q)
    have hd : ∀ x : ℝ, Ideal.div (x : EReal) (a p + a q) = ((x / (r p + r q) : ℝ) : EReal) := by
      intro x
      rw [ha, ha, ← EReal.coe_add]
      unfold Ideal.div
      rw [if_neg (by exact_mod_cast hs.ne'), ← EReal.coe_inv, ← EReal.coe_mul, div_eq_mul_inv]
    unfold bySort
    rw [hp, hq]
    split
    · exact ⟨r q / (r p + r q), div_nonneg (hr q) hs.le, by rw [← hd, ha]⟩
    · split
      · exact ⟨r p / (r p + r q), div_nonneg (hr p) hs.le, by rw [← hd, ha]⟩
      · exact ⟨0, le_rfl, by simp⟩

end Cert.Route
-- ==== Proof.KernelRead.lean ====
/- The kernel's payloads read at an index: the combine weights are those by the masks of the router's softmax, and a point adds to the
   output its expert's part over its 512 hidden columns. -/
module

public import proofs.«01_k».proof.Proof.Step
public import proofs.«01_k».proof.Proof.Weights

@[expose] public section

set_option maxRecDepth 16384

noncomputable section

namespace Cert.KernelIdeal.Hand

open Idealize.ShloMosaic Idealize.ShloMosaic.TcCoe Idealize.SL.Sem
open Cert.KernelIdeal Cert.KernelIdeal.Gen Cert.Route

variable (x : FVec Ideal S64x1x2048 .f32) (w : FVec Ideal S2048x16 .f32)

/-- A row of the router's logits. -/
def logitRow (t : Fin 64) (e : Fin 16) : EReal := ∑ k : Fin 2048, x (ix3 t 0 k) * w (ix2 k e)

/-- The first payload is the softmax. -/
theorem soft_at (t : Fin 64) (e : Fin 16) : k0_pay2 (F := Ideal) x w (ix2 t e) = soft (logitRow x w t) e := by
  pointwise [k0_pay2]
  simp only [ofBits_neg_inf]
  rfl

/-- The greatest affinity of a row. -/
theorem top_at (t : Fin 64) : k0_pay3 (F := Ideal) x w (ix2 t 0) = top (soft (logitRow x w t)) := by
  pointwise [k0_pay3]
  simp only [ofBits_neg_inf, soft_at]
  rfl

/-- The mask of a row's first position. -/
theorem mask_at (t : Fin 64) (e : Fin 16) : k0_pay4 (F := Ideal) x w (ix2 t e) = mask (soft (logitRow x w t)) e := by
  pointwise [k0_pay4, k0_pay3]
  simp only [ofBits_neg_inf, soft_at]
  rfl

/-- The masked row. -/
theorem masked_at (t : Fin 64) (e : Fin 16) : k0_pay5 (F := Ideal) x w (ix2 t e) = masked (soft (logitRow x w t)) e := by
  pointwise [k0_pay5]
  rw [ofBits_neg_one, mask_at, soft_at]
  rfl

/-- The greatest entry of the masked row. -/
theorem top_masked_at (t : Fin 64) : k0_pay6 (F := Ideal) x w (ix2 t 0) = top (masked (soft (logitRow x w t))) := by
  pointwise [k0_pay6]
  simp only [ofBits_neg_inf, masked_at]
  rfl

/-- The mask of the masked row's first position. -/
theorem mask_masked_at (t : Fin 64) (e : Fin 16) : k0_pay7 (F := Ideal) x w (ix2 t e) = mask (masked (soft (logitRow x w t))) e := by
  pointwise [k0_pay7, k0_pay6]
  simp only [ofBits_neg_inf, masked_at]
  rfl

/-- The combine weights are those by the masks. -/
theorem weights_at (t : Fin 64) (e : Fin 16) : weights x w (ix2 t e) = byMasks (soft (logitRow x w t)) e := by
  unfold weights byMasks
  rw [← top_at, ← top_masked_at, ← mask_at, ← mask_masked_at]
  pointwise [k0_pay11, k0_pay8, k0_pay9, k0_pay10]

/-- The sum over the columns that keeps column `n` only. -/
theorem sum_select (n : Fin 16) (f : Fin 16 → EReal) :
    ∑ j : Fin 16, Scalar.select (IntOp.cmpi .eq (BitVec.ofNat 32 j.val) (BitVec.ofNat 32 n.val)) (f j) 0 = f n := by
  rw [← Finset.sum_ite_eq' Finset.univ n f |>.trans (if_pos (Finset.mem_univ n))]
  refine Finset.sum_congr rfl fun j _ => ?_
  rw [WordCmp.cmpi_eq_ofNat (lt_of_lt_of_le j.isLt (by decide)) (lt_of_lt_of_le n.isLt (by decide)), WordCmp.select_decide]
  exact if_congr Fin.ext_iff.symm rfl rfl

/-- A token's product with column `k` of a block of an expert's matrix. -/
def blockProject (b : FVec Ideal S1x2048x512 .f32) (t : Fin 64) (k : Fin 512) : EReal := ∑ l : Fin 2048, x (ix3 t 0 l) * b (ix3 0 l k)

/-- What a point adds to the output: its expert's weighted hidden columns times the rows of its block of the down matrix. -/
theorem part_at (i : grid0.Coords) (n : Fin 16) (hn : (i 0).val = n.val) (b c : FVec Ideal S1x2048x512 .f32) (d : FVec Ideal S64x16 .f32)
    (f : FVec Ideal S64x1x2048 .f32) (g : FVec Ideal S1x512x2048 .f32) (t : Fin 64) (h : Fin 2048) :
    k0_pay1 (F := Ideal) (k0_pay13 (F := Ideal) i x b c d f g) (ix3 t 0 h) = f (ix3 t 0 h) +
      ∑ k : Fin 512, blockProject x b t k * Ideal.logistic (blockProject x b t k) * blockProject x c t k * d (ix2 t n) * g (ix3 0 k h) := by
  rw [← sum_select n fun j => d (ix2 t j), ← hn]
  pointwise [k0_pay1, k0_pay13]
  rfl

/-- The output starts from zero. -/
theorem start_at (i : S64x1x2048.Idx) : k0_pay12 (F := Ideal) i = 0 := by
  pointwise [k0_pay12]

end Cert.KernelIdeal.Hand
-- ==== Proof.KernelValue.lean ====
/- What the kernel's result array holds: at token `t` and column `h`, the sum over experts and hidden columns of the weighted hidden layer
   times the down matrix. -/
module

public import proofs.«01_k».proof.Proof.Blocks
public import proofs.«01_k».proof.Proof.KernelRead

@[expose] public section

set_option maxRecDepth 16384

noncomputable section

namespace Cert.KernelIdeal.Hand

open Idealize.ShloMosaic Idealize.ShloMosaic.TcCoe Idealize.SL.Sem
open Cert.KernelIdeal Cert.KernelIdeal.Gen Cert.KernelIdeal.Value Cert.Route

variable (m : (ℓ : Loc nD τ sig) → Buf (Elt Ideal) ℓ) (c : Dev nD)

/-- The scratch holds the combine weights after every point. -/
theorem scratch (n : ℕ) (hn : n < cfg0.N) : (outsAt0 m c n hn).2 = weights (argX m c) (argR m c) := by
  induction n with
  | zero =>
    rw [outsAt0_zero, step_first m c ⟨0, hn⟩ _ rfl]
    dsimp only
    rw [block_x, block_r]
  | succ n ih =>
    have h : ¬ (n + 1) % 64 = 0 := by
      have := lt_of_lt_of_eq hn N_0
      omega
    rw [outsAt0_succ, step_later m c ⟨n + 1, hn⟩ _ h]
    exact ih _

/-- A projection of token `t` by expert `e`, at hidden column `f`. -/
def projected (x : FVec Ideal S64x1x2048 .f32) (w : FVec Ideal S16x2048x2048 .f32) (t : Fin 64) (e : Fin 16) (f : Fin 2048) : EReal :=
  ∑ l : Fin 2048, x (ix3 t 0 l) * w (ix3 e l f)

/-- One hidden column's part of the result: the hidden layer there, weighted, times the down matrix. -/
def part (x : FVec Ideal S64x1x2048 .f32) (wr : FVec Ideal S2048x16 .f32) (wg wu wd : FVec Ideal S16x2048x2048 .f32) (t : Fin 64) (h : Fin 2048)
    (e : Fin 16) (f : Fin 2048) : EReal :=
  projected x wg t e f * Ideal.logistic (projected x wg t e f) * projected x wu t e f * byMasks (soft (logitRow x wr t)) e * wd (ix3 e f h)

/-- What point `p` adds at token `t` and column `h`. -/
def pointPart (t : Fin 64) (h : Fin 2048) (p : Fin cfg0.N) (k : Fin 512) : EReal :=
  blockProject (argX m c) (iblk m c 2 p) t k * Ideal.logistic (blockProject (argX m c) (iblk m c 2 p) t k) * blockProject (argX m c) (iblk m c 3 p) t k
    * weights (argX m c) (argR m c) (ix2 t ⟨p.val / 4, by have := lt_of_lt_of_eq p.isLt N_0; omega⟩)
    * (iblk m c 4 p : FVec Ideal S1x512x2048 .f32) (ix3 0 k h)

/-- A point's part on its expert and its hidden columns. -/
theorem pointPart_eq (t : Fin 64) (h : Fin 2048) (p : Fin cfg0.N) (k : Fin 512) (he : p.val / 4 < 16) (hk : p.val % 4 * 512 + k.val < 2048) :
    pointPart m c t h p k = part (argX m c) (argR m c) (argG m c) (argU m c) (argD m c) t h ⟨p.val / 4, he⟩ ⟨p.val % 4 * 512 + k.val, hk⟩ := by
  unfold pointPart part blockProject projected
  rw [weights_at, block_d m c p k h he hk]
  simp only [fun l => block_g m c p l k he hk, fun l => block_u m c p l k he hk]

/-- The output after the first point, and after a later one. -/
theorem out_step (p : Fin cfg0.N) (t : Fin 64) (h : Fin 2048) :
    (p.val % 64 = 0 → (outsAt0 m c p.val p.isLt).1 (ix3 t 0 h) = 0 + ∑ k : Fin 512, pointPart m c t h p k)
    ∧ (¬ p.val % 64 = 0 → (outsAt0 m c p.val p.isLt).1 (ix3 t 0 h)
        = (outsAt0 m c (p.val - 1) (Nat.lt_of_le_of_lt (Nat.sub_le _ _) p.isLt)).1 (ix3 t 0 h) + ∑ k : Fin 512, pointPart m c t h p k) := by
  obtain ⟨n, hn⟩ := p
  have hn' := lt_of_lt_of_eq hn N_0
  have hc : ((grid0.coords ⟨n, hn⟩) 0).val = (⟨n / 4, by omega⟩ : Fin 16).val := (idx ⟨n, hn⟩).2.2.2.2.2
  constructor
  · intro h0
    obtain rfl : n = 0 := by
      have : n % 64 = 0 := h0
      omega
    show (outsAt0 m c 0 hn).1 _ = _
    rw [outsAt0_zero, step_first m c ⟨0, hn⟩ _ rfl]
    dsimp only
    rw [block_x, block_r, part_at _ _ _ hc, start_at]
    rfl
  · intro h0
    obtain ⟨q, rfl⟩ : ∃ q, n = q + 1 := Nat.exists_eq_succ_of_ne_zero (fun e => h0 (by
      show n % 64 = 0
      omega))
    show (outsAt0 m c (q + 1) hn).1 _ = (outsAt0 m c q _).1 _ + _
    rw [outsAt0_succ, step_later m c ⟨q + 1, hn⟩ _ h0]
    dsimp only
    rw [block_x, part_at _ _ _ hc, scratch]
    rfl

/-- The result array of the kernel, in closed form. -/
theorem kernel_at (t : Fin 64) (h : Fin 2048) :
    (G5 m c : FVec Ideal S64x1x2048 .f32) (ix3 t 0 h) = ∑ e : Fin 16, ∑ f : Fin 2048, part (argX m c) (argR m c) (argG m c) (argU m c) (argD m c) t h e f := by
  have e63 : 63 < cfg0.N := lt_of_lt_of_eq (by decide) N_0.symm
  have hlast := Pipeline.eq_sum_fin_of_reset_step_apply_last (ι := Fin 64 × Fin 2048) (fun n hn i => (outsAt0 m c n hn).1 (ix3 i.1 0 i.2)) 64 (fun _ => 0)
    (fun p i => ∑ k : Fin 512, pointPart m c i.1 i.2 p k)
    (fun p h0 i => (out_step m c p i.1 i.2).1 h0) (fun p h0 i => (out_step m c p i.1 i.2).2 h0) N_0.le ⟨63, e63⟩ N_0.symm (t, h)
  rw [G5_last, ← outsAt0_sweep m c 63 e63]
  refine hlast.trans ?_
  rw [zero_add]
  exact Fin.sum_points_lanes_congr 4 (fun p k ha hl => pointPart_eq m c t h p k ha hl) N_0 rfl

end Cert.KernelIdeal.Hand
-- ==== Proof.RefTerm.lean ====
/- The reference's result, its long composed term cut into named parts: the softmax of the router's logits, the two chosen values and
   indices of each row, the combine weights, the experts' hidden layer. -/
module

public import proofs.«01_k».proof.Proof.Gen.ReferenceIdeal.Run
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- The tokens as a matrix, one row per token. -/
def tokens (x : FVec Ideal S64x1x2048 .f32) : FVec Ideal S64x2048 .f32 :=
  shapeCast _ x shapeCasts_S64x1x2048_S64x2048

/-- The router's logits: one row per token, one column per expert. -/
def logits (x : FVec Ideal S64x1x2048 .f32) (wr : FVec Ideal S2048x16 .f32) : FVec Ideal S64x16 .f32 :=
  Host.dotGeneral dot_S64x2048_S2048x16_S64x16_1_0_0_1_n_n none (tokens x) wr

/-- The exponentials of the logits, each row shifted by its maximum. -/
def expd (l : FVec Ideal S64x16 .f32) : FVec Ideal S64x16 .f32 :=
  Host.exp (subf l (broadcastInDim S64x16 ![0, 1] bcast_S64x1_S64x16_0_1 (broadcastInDim S64x1 ![0] bcast_S64_S64x1_0
    (maximumf (broadcastInDim S64 ![] bcast_S_S64 (constant S_ .f32 0xFF800000#32))
      (Host.reduce FloatOps.maximumf l (constant S_ .f32 0xFF800000#32) reducesTo_S64x16_S64_d1 h_S_)))))

/-- The softmax of each row of logits. -/
def affinity (l : FVec Ideal S64x16 .f32) : FVec Ideal S64x16 .f32 :=
  Host.divf (expd l) (broadcastInDim S64x16 ![0, 1] bcast_S64x1_S64x16_0_1 (broadcastInDim S64x1 ![0] bcast_S64_S64x1_0
    (Host.reduceAdd (expd l) (constant S_ .f32 0x00000000#32) reducesTo_S64x16_S64_d1 h_S_)))

/-- The two greatest entries of each row, the greater first. -/
def topVal (a : FVec Ideal S64x16 .f32) : FVec Ideal S64x2 .f32 :=
  (Host.topK S64x2 1 (FloatOps.cmpfTotal .gt) a sliceFits_S64x16_S64x2).1

/-- The columns of the two greatest entries of each row. -/
def topIdx (a : FVec Ideal S64x16 .f32) : IVec S64x2 32 :=
  (Host.topK S64x2 1 (FloatOps.cmpfTotal .gt) a sliceFits_S64x16_S64x2).2

/-- The two greatest entries of each row divided by their sum. -/
def topWeight (v : FVec Ideal S64x2 .f32) : FVec Ideal S64x2 .f32 :=
  Host.divf v (broadcastInDim S64x2 ![0, 1] bcast_S64x1_S64x2_0_1 (broadcastInDim S64x1 ![0] bcast_S64_S64x1_0
    (Host.reduceAdd v (constant S_ .f32 0x00000000#32) reducesTo_S64x2_S64_d1 h_S_)))

/-- The row number of each place of a `[64, 2]` table, a negative one wrapped around. -/
def rowWord : IVec S64x1 32 :=
  select (cmpi .slt (broadcastInDim S64x1 ![0] bcast_S64_S64x1_0 (iotaInDim S64 32 0)) (broadcastInDim S64x1 ![] bcast_S_S64x1 (constantI S_ 32 0#32)))
    (addi (broadcastInDim S64x1 ![0] bcast_S64_S64x1_0 (iotaInDim S64 32 0)) (broadcastInDim S64x1 ![] bcast_S_S64x1 (constantI S_ 32 64#32)))
    (broadcastInDim S64x1 ![0] bcast_S64_S64x1_0 (iotaInDim S64 32 0))

/-- The column words of a `[64, 2]` table, a negative one wrapped around. -/
def colWord (i : IVec S64x2 32) : IVec S64x2 32 :=
  select (cmpi .slt i (broadcastInDim S64x2 ![] bcast_S_S64x2 (constantI S_ 32 0#32)))
    (addi i (broadcastInDim S64x2 ![] bcast_S_S64x2 (constantI S_ 32 16#32))) i

/-- The (row, column) pairs at which the weights are written. -/
def places (i : IVec S64x2 32) : IVec S64x2x2 32 :=
  concatenate S64x2x2 2 [⟨S64x2x1, broadcastInDim S64x2x1 ![0, 1] bcast_S64x2_S64x2x1_0_1 (broadcastInDim S64x2 ![0, 1] bcast_S64x1_S64x2_0_1 rowWord)⟩,
    ⟨S64x2x1, broadcastInDim S64x2x1 ![0, 1] bcast_S64x2_S64x2x1_0_1 (colWord i)⟩] concatenates_S64x2x1_S64x2x1_S64x2x2_d2

/-- The combine weights: zeros, with each row's two weights written at its two columns. -/
def combine (a : FVec Ideal S64x16 .f32) : FVec Ideal S64x16 .f32 :=
  Host.scatter scatter_S64x16_S64x2x2_S64x2_n_01_01_2 (fun _ b => b) (broadcastInDim S64x16 ![] bcast_S_S64x16 (constant S_ .f32 0x00000000#32))
    (places (topIdx a)) (topWeight (topVal a))

/-- A projection of every token by every expert. -/
def project (x : FVec Ideal S64x1x2048 .f32) (w : FVec Ideal S16x2048x2048 .f32) : FVec Ideal S64x16x2048 .f32 :=
  Host.dotGeneral dot_S64x2048_S16x2048x2048_S64x16x2048_1_1_0_02_n_n none (tokens x) w

/-- The experts' hidden layer: the gate times its logistic, times the up projection. -/
def hidden (g u : FVec Ideal S64x16x2048 .f32) : FVec Ideal S64x16x2048 .f32 :=
  mulf (mulf g (Host.divf (broadcastInDim S64x16x2048 ![] bcast_S_S64x16x2048 (constant S_ .f32 0x3F800000#32))
    (addf (broadcastInDim S64x16x2048 ![] bcast_S_S64x16x2048 (constant S_ .f32 0x3F800000#32)) (Host.exp (Host.negf g))))) u

/-- The experts' outputs, token first. -/
def expertOut (h : FVec Ideal S64x16x2048 .f32) (wd : FVec Ideal S16x2048x2048 .f32) : FVec Ideal S64x16x2048 .f32 :=
  transpose S64x16x2048 [2, 0, 1] (Host.dotGeneral dot_S16x2048x2048_S64x16x2048_S16x2048x64_1_2_2_0_0_1 none wd h) transposes_S16x2048x64_S64x16x2048_2_0_1

/-- The reference's result: the experts' outputs combined by the weights. -/
def result (x : FVec Ideal S64x1x2048 .f32) (wr : FVec Ideal S2048x16 .f32) (wg wu wd : FVec Ideal S16x2048x2048 .f32) : FVec Ideal S64x1x2048 .f32 :=
  shapeCast _ (Host.dotGeneral dot_S64x16_S64x16x2048_S64x2048_1_1_n_2_0_0 none (combine (affinity (logits x wr)))
    (expertOut (hidden (project x wg) (project x wu)) wd)) shapeCasts_S64x2048_S64x1x2048

/-- The composed term of the reference's run is `result` of its five arguments. -/
theorem run_result (m : (ℓ : Loc nD τ sig) → Buf (Elt Ideal) ℓ) (c : Dev nD) :
    Value.res_main_v42 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Hand
-- ==== Proof.RefRead.lean ====
/- What the reference computes, read at an index: each row's two chosen columns and weights, the combine weights, the result. -/
module

public import proofs.«01_k».proof.Proof.RefTerm
public import proofs.«01_k».proof.Proof.Weights
public import Idealize.ShloMosaic.Lib.ScatterToDense.RefScatter

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Route

/-- A row of a `[64, 16]` table. -/
def row (a : FVec Ideal S64x16 .f32) (t : Fin 64) (e : Fin 16) : EReal := a (ix2 t e)

/-- A logit is a token's product with a column of the router's matrix. -/
theorem logits_at (x : FVec Ideal S64x1x2048 .f32) (wr : FVec Ideal S2048x16 .f32) (t : Fin 64) (e : Fin 16) :
    logits x wr (ix2 t e) = ∑ k : Fin 2048, x (ix3 t 0 k) * wr (ix2 k e) := by
  pointwise [logits, tokens]

/-- A row of the affinities is the softmax of the row of logits. -/
theorem row_affinity (l : FVec Ideal S64x16 .f32) (t : Fin 64) : row (affinity l) t = soft (row l t) := by
  funext e
  show affinity l (ix2 t e) = _
  pointwise [affinity, expd]
  simp only [ofBits_neg_inf]
  rfl

/-- A chosen value over the sum of its row's two. -/
theorem topWeight_at (v : FVec Ideal S64x2 .f32) (t : Fin 64) (e : Fin 2) :
    topWeight v (ix2 t e) = Ideal.div (v (ix2 t e)) (v (ix2 t 0) + v (ix2 t 1)) := by
  rw [← Fin.sum_univ_two fun x => v (ix2 t x)]
  pointwise [topWeight]

/-- Going along a row changes the column. -/
theorem along_row (t : Fin 64) (j k : Fin 16) : (ix2 t j : S64x16.Idx).along 1 k = ix2 t k := by
  funext d
  match d with
  | ⟨0, _⟩ => rfl
  | ⟨1, _⟩ => rfl

/-- The sort's comparison of two entries of a row. -/
theorem greater_row (a : FVec Ideal S64x16 .f32) (t : Fin 64) :
    (fun k k' : Fin 16 => FloatOps.cmpfTotal (F := Ideal) (φ := .f32) .gt (a (ix2 t k)) (a (ix2 t k')) == 1#1) = greater (row a t) := by
  funext k k'
  show (BitVec.ofBool (decide (a (ix2 t k') < a (ix2 t k))) == 1#1) = decide _
  unfold row
  by_cases h : a (ix2 t k') < a (ix2 t k)
  · rw [decide_eq_true h]
    rfl
  · rw [decide_eq_false h]
    rfl

/-- A chosen value is its row's entry at the sort's position. -/
theorem topVal_at (a : FVec Ideal S64x16 .f32) (t : Fin 64) (e : Fin 2) (e' : Fin 16) (h : e.val = e'.val) :
    topVal a (ix2 t e) = row a t (sortedFrom (greater (row a t)) e') := by
  obtain rfl : e' = ⟨e.val, lt_trans e.isLt (by decide)⟩ := Fin.ext h.symm
  pointwise [topVal, Host.topK, Host.sort2]
  simp only [along_row]
  exact congrArg (fun r => a (ix2 t (sortedFrom r ⟨e.val, lt_trans e.isLt (by decide)⟩))) (greater_row a t)

/-- A chosen index is the word of the sort's position. -/
theorem topIdx_at (a : FVec Ideal S64x16 .f32) (t : Fin 64) (e : Fin 2) (e' : Fin 16) (h : e.val = e'.val) :
    topIdx a (ix2 t e) = BitVec.ofNat 32 (sortedFrom (greater (row a t)) e').val := by
  obtain rfl : e' = ⟨e.val, lt_trans e.isLt (by decide)⟩ := Fin.ext h.symm
  pointwise [topIdx, Host.topK, Host.sort2]
  simp only [along_row]
  exact congrArg (fun r => BitVec.ofNat 32 (sortedFrom r ⟨e.val, lt_trans e.isLt (by decide)⟩ : Fin 16).val) (greater_row a t)

/-- A word of a number below `2 ^ 31` is not wrapped around. -/
theorem wrap_small (n k : ℕ) (h : n < 2 ^ 31) :
    Scalar.select (IntOp.cmpi .slt (BitVec.ofNat 32 n) 0#32) (IntOp.addi (BitVec.ofNat 32 n) (BitVec.ofNat 32 k)) (BitVec.ofNat 32 n) = BitVec.ofNat 32 n := by
  rw [WordCmp.cmpi_slt_zero, WordCmp.select_decide, BitVec.toNat_ofNat, Nat.mod_eq_of_lt (lt_trans h (by decide)), if_neg (not_le.mpr h)]

/-- The first word of a place is its row's number. -/
theorem places_row (i : IVec S64x2 32) (t : Fin 64) (e : Fin 2) : places i (ix3 t e 0) = BitVec.ofNat 32 t.val := by
  pointwise [places, rowWord]
  exact wrap_small t.val 64 (lt_trans t.isLt (by decide))

/-- The second word of a place is its column's number, where that is below 16. -/
theorem places_col (i : IVec S64x2 32) (t : Fin 64) (e : Fin 2) (n : Fin 16) (h : i (ix2 t e) = BitVec.ofNat 32 n.val) :
    places i (ix3 t e 1) = BitVec.ofNat 32 n.val := by
  pointwise [places, colWord]
  rw [h]
  exact wrap_small n.val 16 (lt_trans n.isLt (by decide))

/-- A row's combine weights are those by the sort. -/
theorem combine_at (a : FVec Ideal S64x16 .f32) (t : Fin 64) (e : Fin 16) : combine a (ix2 t e) = bySort (row a t) e := by
  unfold combine
  rw [show (ix2 t e : S64x16.Idx) = ValueIdx.ix2 t e from rfl]
  rw [ScatterToDense.scatter_eq_GS (T := 64) (C := 16) (K := 2) scatter_S64x16_S64x2x2_S64x2_n_01_01_2 rfl rfl rfl (by decide) (by decide) _ _ _
    (fun r n => BitVec.ofNat 32 (sortedFrom (greater (row a r)) (Fin.ofNat 16 n)).val)
    (fun r n => Ideal.div (row a r (sortedFrom (greater (row a r)) (Fin.ofNat 16 n)))
      (row a r (sortedFrom (greater (row a r)) 0) + row a r (sortedFrom (greater (row a r)) 1)))
    (fun i k => places_row _ i k)
    (fun i k => places_col _ i k _ (topIdx_at a i k _ (Nat.mod_eq_of_lt (lt_trans k.isLt (by decide))).symm))
    (fun i k => by
      refine (topWeight_at _ i k).trans ?_
      rw [topVal_at a i 0 0 rfl, topVal_at a i 1 1 rfl, topVal_at a i k (Fin.ofNat 16 k.val) (Nat.mod_eq_of_lt (lt_trans k.isLt (by decide))).symm])]
  have hw : ∀ n : Fin 16, e.val = (BitVec.ofNat 32 n.val).toNat ↔ e = n := fun n => by
    rw [BitVec.toNat_ofNat, Nat.mod_eq_of_lt (lt_trans n.isLt (by decide)), Fin.ext_iff]
  rw [ScatterToDense.GS_succ, ScatterToDense.GS_succ, ScatterToDense.GS_zero]
  unfold bySort
  refine if_congr (hw _) rfl (if_congr (hw _) rfl ?_)
  exact Ideal.ofBits_zero_f32

/-- The gate's logistic times the gate and the up projection. -/
theorem hidden_at (g u : FVec Ideal S64x16x2048 .f32) (t : Fin 64) (e : Fin 16) (f : Fin 2048) :
    hidden g u (ix3 t e f) = g (ix3 t e f) * Ideal.logistic (g (ix3 t e f)) * u (ix3 t e f) := by
  pointwise [hidden]
  rfl

/-- A projection's entry is a token's product with a column of an expert's matrix. -/
theorem project_at (x : FVec Ideal S64x1x2048 .f32) (w : FVec Ideal S16x2048x2048 .f32) (t : Fin 64) (e : Fin 16) (f : Fin 2048) :
    project x w (ix3 t e f) = ∑ k : Fin 2048, x (ix3 t 0 k) * w (ix3 e k f) := by
  pointwise [project, tokens]

/-- The result: a token's experts' outputs, each the product of its hidden layer with the down matrix, summed by the combine weights. -/
theorem result_at (x : FVec Ideal S64x1x2048 .f32) (wr : FVec Ideal S2048x16 .f32) (wg wu wd : FVec Ideal S16x2048x2048 .f32) (t : Fin 64) (h : Fin 2048) :
    result x wr wg wu wd (ix3 t 0 h) = ∑ e : Fin 16, bySort (soft (row (logits x wr) t)) e *
      ∑ f : Fin 2048, wd (ix3 e f h) * (project x wg (ix3 t e f) * Ideal.logistic (project x wg (ix3 t e f)) * project x wu (ix3 t e f)) := by
  simp only [← hidden_at, ← row_affinity, ← combine_at]
  pointwise [result, expertOut]

end Cert.ReferenceIdeal.Hand
-- ==== Proof.Equation.lean ====
/- The equation: what the kernel's result array holds is the reference's result of the same arguments. -/
module

public import proofs.«01_k».proof.Proof.KernelValue
public import proofs.«01_k».proof.Proof.RefRead

@[expose] public section

set_option maxRecDepth 16384

noncomputable section

namespace Cert.Route

open Idealize.ShloMosaic Idealize.ShloMosaic.TcCoe Idealize.SL.Sem

/-- A real weight that is not negative goes into a sum of extended reals. -/
theorem mul_sum_of_nonneg {n : ℕ} (w : ℝ) (hw : 0 ≤ w) (f : Fin n → EReal) : (w : EReal) * ∑ k, f k = ∑ k, (w : EReal) * f k := by
  induction (Finset.univ : Finset (Fin n)) using Finset.induction_on with
  | empty => simp
  | insert k s hk ih =>
    rw [Finset.sum_insert hk, Finset.sum_insert hk, ← ih]
    exact EReal.left_distrib_of_nonneg_of_ne_top (EReal.coe_nonneg.mpr hw) (EReal.coe_ne_top w) _ _

open Cert.KernelIdeal.Hand Cert.ReferenceIdeal.Hand in
/-- At one index the kernel's sum over experts and hidden columns is the reference's sum over experts of weighted outputs. -/
theorem sums_agree (x : FVec Ideal Cert.KernelIdeal.S64x1x2048 .f32) (wr : FVec Ideal Cert.KernelIdeal.S2048x16 .f32)
    (wg wu wd : FVec Ideal Cert.KernelIdeal.S16x2048x2048 .f32) (t : Fin 64) (h : Fin 2048) :
    ∑ e : Fin 16, ∑ f : Fin 2048, part x wr wg wu wd t h e f = result x wr wg wu wd (ix3 t 0 h) := by
  have hl : row (logits x wr) t = logitRow x wr t := funext fun e => logits_at x wr t e
  rw [result_at, hl]
  refine Finset.sum_congr rfl fun e _ => ?_
  obtain ⟨w, hw, hb⟩ := bySort_nonneg (good_soft (logitRow x wr t)) e
  rw [hb, mul_sum_of_nonneg w hw]
  refine Finset.sum_congr rfl fun f _ => ?_
  unfold part
  rw [byMasks_eq_bySort (good_soft _), hb, project_at, project_at]
  unfold projected
  ac_rfl

/-- The kernel's result array is the reference's result of the kernel's arguments. -/
theorem kernel_eq_result (m : (ℓ : Loc Cert.KernelIdeal.nD Cert.KernelIdeal.τ Cert.KernelIdeal.sig) → Buf (Elt Ideal) ℓ) (c : Dev Cert.KernelIdeal.nD) :
    Cert.KernelIdeal.Value.G5 m c = Cert.ReferenceIdeal.Hand.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) := by
  funext i
  obtain ⟨t, h, rfl⟩ : ∃ (t : Fin 64) (h : Fin 2048), i = ix3 t 0 h := by
    refine ⟨i 0, i 2, ?_⟩
    funext d
    match d with
    | ⟨0, _⟩ => rfl
    | ⟨1, _⟩ => exact Subsingleton.elim (α := Fin 1) _ _
    | ⟨2, _⟩ => rfl
  exact (Cert.KernelIdeal.Hand.kernel_at m c t h).trans (sums_agree _ _ _ _ _ t h)

end Cert.Route
-- ==== Proof.lean ====
/- The claims, assembled: the frames from the runs of the three programs; the value claim from the kernel's run, the reference's run and
   the equation of the two results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference runs without a fault, keeps its arguments and leaves no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the five arguments the kernel and the reference leave the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Hand.run_result m' c).trans ?_
  refine Eq.trans ?_ (Cert.Route.kernel_eq_result m c).symm
  rw [(hagree c).1, (hagree c).2.1, (hagree c).2.2.1, (hagree c).2.2.2.1, (hagree c).2.2.2.2]

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
